-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x4096 : Shape := ⟨2, ![32768, 4096]⟩
abbrev S64x4096 : Shape := ⟨2, ![64, 4096]⟩
abbrev S4096x64 : Shape := ⟨2, ![4096, 64]⟩
abbrev S32768x64 : Shape := ⟨2, ![32768, 64]⟩
abbrev S512x4096 : Shape := ⟨2, ![512, 4096]⟩
abbrev S512x64 : Shape := ⟨2, ![512, 64]⟩

abbrev nBuf : Space → Nat
  | .hbm => 4
  | .vmem => 5
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S4096x64, .f32⟩
  | .hbm, ⟨3, _⟩ => ⟨S32768x64, .f32⟩
  | .local _ .vmem, ⟨0, _⟩ => ⟨S512x4096, .f32⟩
  | .local _ .vmem, ⟨1, _⟩ => ⟨S512x4096, .f32⟩
  | .local _ .vmem, ⟨2, _⟩ => ⟨S4096x64, .f32⟩
  | .local _ .vmem, ⟨3, _⟩ => ⟨S512x64, .f32⟩
  | .local _ .vmem, ⟨4, _⟩ => ⟨S512x64, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S32768x4096 : Shape := ⟨2, ![32768, 4096]⟩
abbrev S64x4096 : Shape := ⟨2, ![64, 4096]⟩
abbrev S4096x64 : Shape := ⟨2, ![4096, 64]⟩
abbrev S32768x64 : Shape := ⟨2, ![32768, 64]⟩

abbrev nBuf : Space → Nat
  | .hbm => 4
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S4096x64, .f32⟩
  | .hbm, ⟨3, _⟩ => ⟨S32768x64, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Logits.lean ====
/- The function that both programs compute: the router's logits, as sums over the model axis of the extended reals. -/
module

public import Idealize.ShloMosaic.PureOps.Ideal
public import Idealize.ShloMosaic.Lib.ValueIdxCore

@[expose] public section

noncomputable section

namespace Router

open Idealize.ShloMosaic Idealize.ShloMosaic.ValueIdx
open scoped BigOperators

/-- The logit of token `r` for expert `e`: the inner product of the token's hidden state with the expert's row of weights. -/
def logit (X : FVec Ideal ⟨2, ![32768, 4096]⟩ .f32) (W : FVec Ideal ⟨2, ![64, 4096]⟩ .f32) (r : Fin 32768) (e : Fin 64) : Ideal .f32 :=
  ∑ k : Fin 4096, X (ix2 r k) * W (ix2 e k)

/-- All the logits, as one array: tokens down, experts across. -/
def logits (X : FVec Ideal ⟨2, ![32768, 4096]⟩ .f32) (W : FVec Ideal ⟨2, ![64, 4096]⟩ .f32) : FVec Ideal ⟨2, ![32768, 64]⟩ .f32 :=
  fun j => logit X W (j 0) (j 1)

end Router

end
-- ==== Proof.Block.lean ====
/- What the kernel's body computes from the blocks it is given, over the extended reals. -/
module

public import proofs.«01_k».proof.Proof.Gen.KernelIdeal.Skeleton
public import Idealize.ShloMosaic.Lib.MatmulPlain
public import Idealize.ShloMosaic.Lib.Pipeline.Value

@[expose] public section

noncomputable section

namespace Router

open Idealize.ShloMosaic Idealize.ShloMosaic.ValueIdx Cert.KernelIdeal Cert.KernelIdeal.Gen
open scoped BigOperators

/-- The kernel's dimension numbers are those of a plain product of a 512 × 4096 by a 4096 × 64 matrix. -/
theorem block_dims : dot_S512x4096_S4096x64_S512x64_1_0_0_1_n_n = DotDims.plain 512 4096 64 := rfl

/-- ONE BLOCK: the body's result at row `p`, column `e` is the inner product of row `p` of the block of hidden states with
    column `e` of the transposed weights: the two casts to bf16 are the identity over the reals, and the accumulator is zero. -/
theorem block_apply (x : Vec Ideal S512x4096 .f32) (w : Vec Ideal S4096x64 .f32) (p : Fin 512) (e : Fin 64) :
    k0_pay1 (F := Ideal) x w (ix2 p e) = ∑ k : Fin 4096, x (ix2 p k) * w (ix2 k e) := by
  unfold k0_pay1
  rw [block_dims, shapeCast_self]
  refine (Ideal.matmul_plain_apply none _ _ _ p e).trans ?_
  rw [show constant S512x64 .f32 0x00000000#32 (ix2 p e) = (0 : Ideal .f32) from Ideal.ofBits_zero_f32, zero_add]
  rfl

end Router

end
-- ==== Proof.KernelLogits.lean ====
/- What the kernel's result array holds after the run, over the extended reals: the router's logits. -/
module

public import proofs.«01_k».proof.Proof.Logits
public import proofs.«01_k».proof.Proof.Block
public import proofs.«01_k».proof.Proof.Gen.KernelIdeal.Value
public import Idealize.ShloMosaic.Lib.Pipeline.ValueKit
public import Idealize.ShloMosaic.Lib.ValueLayout

@[expose] public section

noncomputable section

namespace Router

open Idealize.ShloMosaic Idealize.ShloMosaic.TcCoe Cert.KernelIdeal Cert.KernelIdeal.Gen
open scoped BigOperators

variable (m : (ℓ : Loc nD τ sig) → Buf (Elt Ideal) ℓ)

/-- Point `t` takes block `t` of 512 rows of the hidden states, the whole of the weights, and block `t` of the logits. -/
theorem index_at : ∀ t : Fin cfg0.N,
    win0_0.index t = ![t.val, 0] ∧ win0_1.index t = ![0, 0] ∧ win0_2.index t = ![t.val, 0] :=
  (by decide +kernel : ∀ t : Fin grid0.N, _)

/-- The kernel's second operand, as the pallas_call finds it, is the transposed weights. -/
theorem weights_transposed (c : Dev nD) (k : Fin 4096) (e : Fin 64) :
    V m c main_v0 (ValueIdx.ix2 k e) = m ((c : Thread nD τ).loc main_arg1) (ValueIdx.ix2 e k) := by
  have hV : V m c main_v0 = transpose S4096x64 [1, 0] (m ((c : Thread nD τ).loc main_arg1)) Facts₀.transposes_S64x4096_S4096x64_1_0 := by
    unfold V; after_results
  rw [hV]
  exact transpose_apply [1, 0] _ _ (ValueIdx.ix2 k e) (ValueIdx.ix2 e k) fun b => match b with | ⟨0, _⟩ => rfl | ⟨1, _⟩ => rfl

/-- Row `p` of the block of hidden states at point `t` is row `512 t + p` of the argument. -/
theorem hidden_block (c : Dev nD) (t : Fin cfg0.N) (p : Fin 512) (k : Fin 4096) (r : Fin 32768) (hr : r.val = t.val * 512 + p.val) :
    iblk m c 0 t (ValueIdx.ix2 p k) = m ((c : Thread nD τ).loc main_arg0) (ValueIdx.ix2 r k) := by
  blk_simp [iblk]
  rw [V_main_arg0]
  refine congrArg _ (funext fun a => Fin.ext ?_)
  match a with
  | ⟨0, _⟩ => blk_simp [(index_at t).1]; simp [hr]
  | ⟨1, _⟩ => blk_simp [(index_at t).1]

/-- The block of the weights is the whole transposed array, at every point. -/
theorem weight_block (c : Dev nD) (t : Fin cfg0.N) (k : Fin 4096) (e : Fin 64) :
    iblk m c 1 t (ValueIdx.ix2 k e) = m ((c : Thread nD τ).loc main_arg1) (ValueIdx.ix2 e k) := by
  rw [← weights_transposed m c k e]
  blk_simp [iblk]
  refine congrArg _ (funext fun a => Fin.ext ?_)
  match a with
  | ⟨0, _⟩ => blk_simp [(index_at t).2.1]
  | ⟨1, _⟩ => blk_simp [(index_at t).2.1]

/-- THE KERNEL: after the run the result array holds the logits of the two arguments. Every point writes back its own 512
    rows, and the 64 points together write every row. -/
theorem kernel_eq_logits (c : Dev nD) :
    (dats m 0 c).arrAt 2 cfg0.N = logits (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨p, e, rfl⟩ : ∃ (p : Fin 512) (e : Fin 64), y = ValueIdx.ix2 p e := ⟨y 0, y 1, ValueIdx.eq_ix2 y⟩
  have ht : t.val < 64 := t.isLt
  have hj : ((cfg0.win 2).blk t).view.emb (ValueIdx.ix2 p e) = ValueIdx.ix2 (⟨t.val * 512 + p.val, by omega⟩ : Fin 32768) e := by
    refine funext fun a => Fin.ext ?_
    match a with
    | ⟨0, _⟩ => blk_simp [(index_at t).2.2]
    | ⟨1, _⟩ => blk_simp [(index_at t).2.2]
  refine (block_apply _ _ p e).trans (Eq.trans ?_ (congrArg (logits _ _) hj).symm)
  show _ = logit _ _ _ _
  exact Finset.sum_congr rfl fun k _ => congrArg₂ (· * ·) (hidden_block m c t p k _ rfl) (weight_block m c t k e)

end Router

end
-- ==== Proof.RefLogits.lean ====
/- What the reference computes, read at an index, over the extended reals. -/
module

public import proofs.«01_k».proof.Proof.Logits
public import proofs.«01_k».proof.Proof.Gen.ReferenceIdeal
public import Idealize.ShloMosaic.Lib.StackMember
public import Idealize.ShloMosaic.Lib.ValueLayout

@[expose] public section

noncomputable section

namespace Router

open Idealize.ShloMosaic Idealize.ShloMosaic.ValueIdx Cert.ReferenceIdeal Cert.ReferenceIdeal.Gen
open scoped BigOperators

/-- The reference's dimension numbers are those of a plain product of a 32768 × 4096 by a 4096 × 64 matrix. -/
theorem reference_dims : dot_S32768x4096_S4096x64_S32768x64_1_0_0_1_n_n = DotDims.plain 32768 4096 64 := rfl

/-- THE REFERENCE: one product of the hidden states with the transposed weights, which is the array of logits. -/
theorem reference_eq_logits (X : FVec Ideal S32768x4096 .f32) (W : FVec Ideal S64x4096 .f32) (h : S64x4096.Transposes [1, 0] S4096x64) :
    Host.dotGeneral dot_S32768x4096_S4096x64_S32768x64_1_0_0_1_n_n none X (transpose S4096x64 [1, 0] W h) = logits X W := by
  funext j
  obtain ⟨r, e, rfl⟩ : ∃ (r : Fin 32768) (e : Fin 64), j = ix2 r e := ⟨j 0, j 1, eq_ix2 j⟩
  rw [reference_dims]
  show _ = ∑ k : Fin 4096, X (ix2 r k) * W (ix2 e k)
  refine (StackMember.dotGeneral_plain_apply none X _ r e).trans (Finset.sum_congr rfl fun k _ => ?_)
  rw [transpose_apply [1, 0] W h (ix2 k e) (ix2 e k) fun b => match b with | ⟨0, _⟩ => rfl | ⟨1, _⟩ => rfl]

end Router

end
-- ==== Proof.lean ====
/- The five claims: the frames of the kernel, of its ideal reading and of the reference; the ideal reading is the kernel's
   own text; and the two compute the same logits over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelLogits
public import proofs.«01_k».proof.Proof.RefLogits
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel terminates without fault, its arguments unchanged and every counter at zero. -/
theorem frame_kernel : Cert.quiescent_Kernel := fun m ρ _ => Cert.Kernel.Gen.frame m ρ

/-- So does its ideal reading, -/
theorem frame_kernel_ideal : Cert.quiescent_KernelIdeal := fun m ρ _ => Cert.KernelIdeal.Gen.frame m ρ

/-- and so does the reference, which declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- THE VALUE: from arguments that agree, the kernel's result array and the reference's both end at the logits
    `∑ k, hidden[r, k] · W[e, k]`, for every token `r` and expert `e`. -/
theorem same_logits : Cert.algebraic_KernelIdeal_ReferenceIdeal := by
  intro m ρ m' ρ' _ hagree
  refine ⟨fun c => Router.logits (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Router.kernel_eq_logits m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Router.reference_eq_logits, (hagree c).1, (hagree c).2]

/-- All the claims, under the programs' side conditions. -/
theorem claim : Cert.Claim := ⟨Cert.Kernel.Gen.facts, Cert.KernelIdeal.Gen.facts, Cert.ReferenceIdeal.Gen.facts,
  frame_kernel, frame_kernel_ideal, frame_reference, trivial, same_logits⟩

end Cert.Proof

end
